-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x4096 : Shape := ⟨2, ![4, 4096]⟩
abbrev S8192x1024 : Shape := ⟨2, ![8192, 1024]⟩
abbrev S4x4096x1024 : Shape := ⟨3, ![4, 4096, 1024]⟩
abbrev S64x1024 : Shape := ⟨2, ![64, 1024]⟩
abbrev S_ : Shape := ⟨0, ![]⟩
abbrev S1x64x1024 : Shape := ⟨3, ![1, 64, 1024]⟩

abbrev nBuf : Table → Nat
  | .hbm => 3
  | .local .scVector .vmem => 1
  | _ => 0

abbrev bufTy : (tb : Table) → Fin (nBuf tb) → BufTy
  | .hbm, ⟨0, _⟩ => ⟨S4x4096, .i32⟩
  | .hbm, ⟨1, _⟩ => ⟨S8192x1024, .f32⟩
  | .hbm, ⟨2, _⟩ => ⟨S4x4096x1024, .f32⟩
  | .local .scVector .vmem, ⟨0, _⟩ => ⟨S64x1024, .f32⟩
  | _, _ => ⟨S4x4096, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v3 : BitVec 32 := Scalar.addi v2 c0_i32
  let c0_i32_8_r0 : BitVec 32 := 0#32
  ![v3.toNat, 0]
def k0_off2 (i : grid0.Coords) (c0_i32 : BitVec 32) : Fin 3 → Nat :=
  let c0_i32_0 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v3 : BitVec 32 := Scalar.addi v2 c0_i32
  let c0_i32_8_r1 : BitVec 32 := 0#32
  ![0, v3.toNat, 0]
def k0_off3 (i : grid0.Coords) (c0_i32 : BitVec 32) : Fin 3 → Nat :=
  let c1_i32 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v3 : BitVec 32 := Scalar.addi v2 c0_i32
  let c0_i32_8_r2 : BitVec 32 := 0#32
  ![1, v3.toNat, 0]
def k0_off4 (i : grid0.Coords) (c0_i32 : BitVec 32) : Fin 3 → Nat :=
  let c2_i32_1 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v3 : BitVec 32 := Scalar.addi v2 c0_i32
  let c0_i32_8_r3 : BitVec 32 := 0#32
  ![2, v3.toNat, 0]
def k0_off5 (i : grid0.Coords) (c0_i32 : BitVec 32) : Fin 3 → Nat :=
  let c3_i32 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v3 : BitVec 32 := Scalar.addi v2 c0_i32
  let c0_i32_8_r4 : BitVec 32 := 0#32
  ![3, v3.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x4096 : Shape := ⟨2, ![4, 4096]⟩
abbrev S8192x1024 : Shape := ⟨2, ![8192, 1024]⟩
abbrev S4096 : Shape := ⟨1, ![4096]⟩
abbrev S1x4096 : Shape := ⟨2, ![1, 4096]⟩
abbrev S1x1x1x4096 : Shape := ⟨4, ![1, 1, 1, 4096]⟩
abbrev S4x1x1x4096 : Shape := ⟨4, ![4, 1, 1, 4096]⟩
abbrev S_ : Shape := ⟨0, ![]⟩
abbrev S4x4096x1 : Shape := ⟨3, ![4, 4096, 1]⟩
abbrev S1 : Shape := ⟨1, ![1]⟩
abbrev S1x1x1 : Shape := ⟨3, ![1, 1, 1]⟩
abbrev S4x4096x1024 : Shape := ⟨3, ![4, 4096, 1024]⟩

abbrev nBuf : Space → Nat
  | .hbm => 30
  | .vmem => 0
  | .smem => 0
  | _ => 0

abbrev bufTy : (tb : Table) → Fin (tcTables nBuf tb) → BufTy
  | .hbm, ⟨0, _⟩ => ⟨S4x4096, .i32⟩
  | .hbm, ⟨1, _⟩ => ⟨S8192x1024, .f32⟩
  | .hbm, ⟨2, _⟩ => ⟨S4096, .i32⟩
  | .hbm, ⟨3, _⟩ => ⟨S1x4096, .i32⟩
  | .hbm, ⟨4, _⟩ => ⟨S1x1x1x4096, .i32⟩
  | .hbm, ⟨5, _⟩ => ⟨S4x1x1x4096, .i32⟩
  | .hbm, ⟨6, _⟩ => ⟨S4x4096, .i32⟩
  | .hbm, ⟨7, _⟩ => ⟨S_, .i32⟩
  | .hbm, ⟨8, _⟩ => ⟨S4x4096, .i32⟩
  | .hbm, ⟨9, _⟩ => ⟨S4x4096, .i1⟩
  | .hbm, ⟨10, _⟩ => ⟨S_, .i32⟩
  | .hbm, ⟨11, _⟩ => ⟨S4x4096, .i32⟩
  | .hbm, ⟨12, _⟩ => ⟨S4x4096, .i32⟩
  | .hbm, ⟨13, _⟩ => ⟨S4x4096, .i32⟩
  | .hbm, ⟨14, _⟩ => ⟨S4x4096x1, .i32⟩
  | .hbm, ⟨15, _⟩ => ⟨S1, .i32⟩
  | .hbm, ⟨16, _⟩ => ⟨S_, .i32⟩
  | .hbm, ⟨17, _⟩ => ⟨S4x4096x1, .i32⟩
  | .hbm, ⟨18, _⟩ => ⟨S4x4096x1, .i1⟩
  | .hbm, ⟨19, _⟩ => ⟨S1x1x1, .i32⟩
  | .hbm, ⟨20, _⟩ => ⟨S4x4096x1, .i32⟩
  | .hbm, ⟨21, _⟩ => ⟨S4x4096x1, .i1⟩
  | .hbm, ⟨22, _⟩ => ⟨S4x4096x1, .i1⟩
  | .hbm, ⟨23, _⟩ => ⟨S_, .i1⟩
  | .hbm, ⟨24, _⟩ => ⟨S4x4096, .i1⟩
  | .hbm, ⟨25, _⟩ => ⟨S4x4096x1024, .f32⟩
  | .hbm, ⟨26, _⟩ => ⟨S4x4096x1024, .i1⟩
  | .hbm, ⟨27, _⟩ => ⟨S_, .f32⟩
  | .hbm, ⟨28, _⟩ => ⟨S4x4096x1024, .f32⟩
  | .hbm, ⟨29, _⟩ => ⟨S4x4096x1024, .f32⟩
  | _, _ => ⟨S4x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v5 : Ref sig .tc := ⟨.hbm, 29, rfl⟩

abbrev nD : Nat := 1
abbrev τ : Topo := Topo.v7x

variable {F : FTy → Type} [FloatOps F]
-- ==== Proof.Blocks.lean ====
/-
  The arrays and the pieces each tile works on.  The table has 8192 rows of 1024 numbers, of which the first 4096 are
  used; the result holds them four times.  Those 4096 rows are cut into 32 runs of 128, one per tile, and each run
  into two blocks of 64, one per trip through the tile's buffer.
-/
module

public import Idealize.ShloMosaic.Shape
public import Idealize.ShloMosaic.Lib.Tactic

@[expose] public section

namespace Cert.Proof.Blocks

open Idealize.ShloMosaic

/-- The table's shape. -/
abbrev Table : Shape := ⟨2, ![8192, 1024]⟩
/-- The result's shape. -/
abbrev Result : Shape := ⟨3, ![4, 4096, 1024]⟩

/-- The table entry that entry `(b, p, e)` of the result repeats: `(p, e)`. -/
def source (j : Result.Idx) : Table.Idx := fun a => match a with
  | ⟨0, _⟩ => ⟨(j 1).val, Nat.lt_of_lt_of_le (j 1).isLt (show 4096 ≤ 8192 by decide)⟩
  | ⟨1, _⟩ => ⟨(j 2).val, (j 2).isLt⟩

/-- What the result must hold: the table's first 4096 rows, once for each of the four batch entries. -/
def spread {α : Type} (x : Table.Idx → α) : Result.Idx → α := fun j => x (source j)

/-- The table rows of run `t`: rows `128 t … 128 t + 127`. -/
def tableRun (t : Nat) : Finset Table.Idx := Finset.univ.filter fun i => (i 0).val / 128 = t
/-- The table rows of block `n`: rows `64 n … 64 n + 63`. -/
def tableBlock (n : Nat) : Finset Table.Idx := Finset.univ.filter fun i => (i 0).val / 64 = n
/-- The result's rows of run `t`, in all four batch entries. -/
def resultRun (t : Nat) : Finset Result.Idx := Finset.univ.filter fun j => (j 1).val / 128 = t
/-- The result's rows of block `n`, in batch entry `b`. -/
def resultBlock (b n : Nat) : Finset Result.Idx := Finset.univ.filter fun j => (j 0).val = b ∧ (j 1).val / 64 = n

/-- Different runs of the table share no entry. -/
theorem tableRun_disjoint {s t : Nat} (h : s ≠ t) : Disjoint (tableRun s) (tableRun t) :=
  Finset.disjoint_filter.2 fun _ _ hs ht => h (hs.symm.trans ht)
/-- Different blocks of the table share no entry. -/
theorem tableBlock_disjoint {m n : Nat} (h : m ≠ n) : Disjoint (tableBlock m) (tableBlock n) :=
  Finset.disjoint_filter.2 fun _ _ hs ht => h (hs.symm.trans ht)
/-- Different runs of the result share no entry. -/
theorem resultRun_disjoint {s t : Nat} (h : s ≠ t) : Disjoint (resultRun s) (resultRun t) :=
  Finset.disjoint_filter.2 fun _ _ hs ht => h (hs.symm.trans ht)
/-- Different blocks of the result share no entry. -/
theorem resultBlock_disjoint {b c m n : Nat} (h : (b, m) ≠ (c, n)) : Disjoint (resultBlock b m) (resultBlock c n) :=
  Finset.disjoint_filter.2 fun _ _ hs ht => h (Prod.ext (hs.1.symm.trans ht.1) (hs.2.symm.trans ht.2))

/-- A run of the table is its two blocks. -/
theorem tableRun_eq (t : Nat) : tableRun t = (Finset.univ : Finset (Fin 2)).biUnion fun k => tableBlock (2 * t + k.val) := by
  ext i
  simp only [tableRun, tableBlock, Finset.mem_filter, Finset.mem_univ, true_and, Finset.mem_biUnion, Fin.exists_fin_two,
    Fin.val_zero, Fin.val_one]
  omega

/-- A run of the result is its two blocks in each of the four batch entries. -/
theorem resultRun_eq (t : Nat) : resultRun t
    = (Finset.univ : Finset (Fin 2 × Fin 4)).biUnion fun x => resultBlock x.2.val (2 * t + x.1.val) := by
  ext j
  have hb : (j 0).val < 4 := (j 0).isLt
  simp only [resultRun, resultBlock, Finset.mem_filter, Finset.mem_univ, true_and, Finset.mem_biUnion, Prod.exists]
  constructor
  · intro h
    exact ⟨⟨(j 1).val / 64 % 2, Nat.mod_lt _ (by decide)⟩, ⟨(j 0).val, hb⟩, rfl, by dsimp only; omega⟩
  · rintro ⟨k, b, -, h⟩
    have := k.isLt
    omega

/-- The run of tile `s` on SparseCore `c`. -/
def run (x : Fin 2 × Fin 16) : Nat := 2 * x.2.val + x.1.val

/-- No two tiles have the same run. -/
theorem run_injective : Function.Injective run := fun x y h => by
  unfold run at h
  have := x.1.isLt; have := y.1.isLt
  exact Prod.ext (Fin.ext (by omega)) (Fin.ext (by omega))

/-- The table rows that some tile reads. -/
def tableUsed : Finset Table.Idx := (Finset.univ : Finset (Fin 2 × Fin 16)).biUnion fun x => tableRun (run x)

/-- The tiles' runs are the whole result. -/
theorem resultRun_cover : ((Finset.univ : Finset (Fin 2 × Fin 16)).biUnion fun x => resultRun (run x)) = Finset.univ := by
  refine Finset.eq_univ_iff_forall.2 fun j => ?_
  have hp : (j 1).val < 4096 := (j 1).isLt
  refine Finset.mem_biUnion.2 ⟨(⟨(j 1).val / 128 % 2, Nat.mod_lt _ (by decide)⟩, ⟨(j 1).val / 256, by omega⟩),
    Finset.mem_univ _, Finset.mem_filter.2 ⟨Finset.mem_univ _, ?_⟩⟩
  unfold run
  dsimp only
  omega

/-- A 64-row window of the table at row `64 n` covers block `n`. -/
theorem window_table (off : Fin 2 → Nat) (inb) (n : Nat) (h : off = ![64 * n, 0]) :
    (Rect.unit (s := Table) off ![64, 1024] inb).set = tableBlock n := by
  subst h
  ext i
  have h1 : (i 1).val < 1024 := (i 1).isLt
  rw [Rect.mem_set_unit, Fin.forall_fin_two]
  simp only [tableBlock, Finset.mem_filter, Finset.mem_univ, true_and, Matrix.cons_val_zero, Matrix.cons_val_one]
  omega

/-- A window of 64 rows of one batch entry of the result, at row `64 n` of entry `b`, covers block `n` there. -/
theorem window_result (off : Fin 3 → Nat) (inb) (b n : Nat) (h : off = ![b, 64 * n, 0]) :
    (Rect.unit (s := Result) off ![1, 64, 1024] inb).set = resultBlock b n := by
  subst h
  ext j
  have h2 : (j 2).val < 1024 := (j 2).isLt
  rw [Rect.mem_set_unit, Fin.forall_fin_succ, Fin.forall_fin_two]
  simp only [resultBlock, Finset.mem_filter, Finset.mem_univ, true_and, Matrix.cons_val_zero, Matrix.cons_val_one,
    Matrix.cons_val_succ, Fin.succ_zero_eq_one, Fin.succ_one_eq_two, Matrix.cons_val]
  omega

end Cert.Proof.Blocks
-- ==== Proof.Tile.lean ====
/-
  One tile's task.  The tile on SparseCore `c`, subcore `s` holds its run of the table and its run of the result.  It
  brings the run's two blocks into its buffer one after the other and, before the second, writes the first out four
  times, once for each batch entry; likewise the second.  Every copy is waited for before the next starts.
-/
module

public import proofs.«01_k».proof.Defs
public import proofs.«01_k».proof.Proof.Blocks
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Tile

open Cert.KernelIdeal Cert.KernelIdeal.Gen Cert.Proof.Blocks

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev 𝒱₀ : Variants := Variants.none

/-- The handshakes' ghost state beside the copies' counters. -/
abbrev UH : Type := URounds (GSem nD τ sig) ℕ
abbrev UU : Type := UH × Counters

local notation "𝕄" => MT nD τ sig (HIx 1) (Elt F) ℕ UU ℕ

/-- The table and the result, as locations of device `d`. -/
abbrev wLoc (d : Dev nD) : Loc nD τ sig := (SparseCore.T d).loc main_arg1
abbrev oLoc (d : Dev nD) : Loc nD τ sig := (SparseCore.T d).loc main_v0

-- the table, the result and the tile's buffer, as the body is given them
local notation "wV" => (Memref.whole Cert.KernelIdeal.main_arg1_scv : Memref Cert.KernelIdeal.sig Kind.scVector Space.hbm Cert.KernelIdeal.S8192x1024 EltTy.f32)
local notation "oV" => (Memref.whole Cert.KernelIdeal.main_v0_scv : Memref Cert.KernelIdeal.sig Kind.scVector Space.hbm Cert.KernelIdeal.S4x4096x1024 EltTy.f32)
local notation "bV" => (Memref.whole Cert.KernelIdeal.cc0_scratch0 : Memref Cert.KernelIdeal.sig Kind.scVector Space.vmem Cert.KernelIdeal.S64x1024 EltTy.f32)

variable (d : Dev nD) (L : grid0.Coords)

/-- The tile's SparseCore and subcore. -/
abbrev cV : Fin τ.nSC := (L 0).castLE hcore0
abbrev jV : Fin τ.nSub := (L 1).castLE hsub0
abbrev tileV : Thread nD τ := V d (cV L) (jV L)
/-- The tile's run, and its block of trip `k`. -/
abbrev runL : Nat := 2 * (L 1).val + (L 0).val
abbrev blockL (k : Fin 2) : Nat := 2 * runL L + k.val

/-- A 64-row window of the table, and one of the result with its batch axis dropped, as the body cuts them. -/
abbrev wWin (off : Fin 2 → Nat) (inb : ∀ a, off a + S64x1024.size a ≤ S8192x1024.size a) : Memref sig .scVector .hbm S64x1024 .f32 :=
  (wV).slice (Rect.unit (s := S8192x1024) off S64x1024.size inb) (fun _ => rfl)
abbrev oWin (off : Fin 3 → Nat) (inb : ∀ a, off a + S1x64x1024.size a ≤ S4x4096x1024.size a) : Memref sig .scVector .hbm S64x1024 .f32 :=
  ((oV).slice (Rect.unit (s := S4x4096x1024) off S1x64x1024.size inb) (fun _ => rfl)).squeeze S64x1024 squeezes_S1x64x1024_S64x1024

/-- The entries of a table window at row `64 n` are block `n`. -/
theorem set_wWin (off) (inb) (n : Nat) (h : off = ![64 * n, 0]) : (wWin off inb).view.set = tableBlock n := by
  show ((View.whole (main_arg1_scv : Ref sig .scVector)).slice _).set = _
  rw [View.set_slice_whole]
  exact window_table off inb n h

/-- The entries of a result window at row `64 n` of batch entry `b` are block `n` there. -/
theorem set_oWin (off) (inb) (b n : Nat) (h : off = ![b, 64 * n, 0]) : (oWin off inb).view.set = resultBlock b n := by
  show (((View.whole (main_v0_scv : Ref sig .scVector)).slice (Rect.unit (s := S4x4096x1024) off S1x64x1024.size inb)).reshape S64x1024 squeezes_S1x64x1024_S64x1024.numel_eq).set = _
  rw [View.set_reshape, View.set_slice_whole]
  exact window_result off inb b n h

/-- Holding a table window as the body names it is holding block `n`. -/
theorem pts_wWin (off) (inb) (n : Nat) (h : off = ![64 * n, 0]) (f : Buf (Elt F) (wLoc d)) :
    ((wWin off inb).view.loc (tileV d L) ↦[(wWin off inb).view.set]{fullShare} f : sProp 𝕄)
      = wLoc d ↦[tableBlock n]{fullShare} f := by
  rw [set_wWin off inb n h]

/-- Holding a result window as the body names it is holding block `n` of batch entry `b`. -/
theorem pts_oWin (off) (inb) (b n : Nat) (h : off = ![b, 64 * n, 0]) (f : Buf (Elt F) (oLoc d)) :
    ((oWin off inb).view.loc (tileV d L) ↦[(oWin off inb).view.set]{fullShare} f : sProp 𝕄)
      = oLoc d ↦[resultBlock b n]{fullShare} f := by
  rw [set_oWin off inb b n h]

/-- The tile's buffer whole, as the body names it. -/
theorem pts_bV (f : Buf (Elt F) ((tileV d L).loc cc0_scratch0)) :
    ((bV).view.loc (tileV d L) ↦{fullShare} f : sProp 𝕄) = (tileV d L).loc cc0_scratch0 ↦{fullShare} f := rfl

/-- The tile's ten copy semaphores, one per copy. -/
abbrev cell (c : Fin τ.nSC) (i : Fin τ.nSub) (k : Fin 10) : GSem nD τ sig := (V d c i, .dma k)

/-- Distinct copies have distinct semaphores. -/
theorem cell_injective (c : Fin τ.nSC) (i : Fin τ.nSub) : Function.Injective (cell d c i) := fun k l h => by
  injection h with _ h
  injection h

/-- The tile's semaphores at zero are its ten copy semaphores at zero and the rest of them at zero. -/
theorem ownSems0_V :
    (ownSems0 (tileV d L) : sProp 𝕄)
      = iprop((bigSep (Finset.univ : Finset (Fin 10)) fun k => semVal (cell d (cV L) (jV L) k) 0)
          ∗ bigSep (ownCells (tileV d L) \ Finset.univ.image (cell d (cV L) (jV L))) fun g => semVal g 0) := by
  unfold SparseCore.Cfg.ownSems0
  have hsub : Finset.univ.image (cell d (cV L) (jV L)) ⊆ ownCells (tileV d L) := fun g hg => by
    obtain ⟨k, -, rfl⟩ := Finset.mem_image.1 hg
    exact mem_ownCells.2 ⟨rfl, (show ∀ k : Fin 10, (SemLoc.dma k : SemLoc sig).isScoped .scVector = true by decide) k⟩
  rw [bigSep_sdiff_split hsub, bigSep_image_of_injOn (cell_injective d _ _).injOn]
  rfl

/-- Ten facts, one after the other. -/
theorem bigSep_ten (Φ : Fin 10 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9) := by
  rw [show (Finset.univ : Finset (Fin 10)) = {0, 1, 2, 3, 4, 5, 6, 7, 8, 9} by decide]
  iterate 9 rw [SparseCore.bigSep_insert' (by decide)]
  rw [bigSep_singleton]

/-- Four facts, one after the other. -/
theorem bigSep_four (Φ : Fin 4 → sProp 𝕄) : bigSep Finset.univ Φ = iprop(Φ 0 ∗ Φ 1 ∗ Φ 2 ∗ Φ 3) := by
  rw [show (Finset.univ : Finset (Fin 4)) = {0, 1, 2, 3} by decide]
  iterate 3 rw [SparseCore.bigSep_insert' (by decide)]
  rw [bigSep_singleton]

/-- The tile's buffers are the one it copies through, at some contents, and the rest. -/
theorem ownBufs_V :
    (ownBufs (tileV d L) : sProp 𝕄)
      = iprop((∃ f, (tileV d L).loc cc0_scratch0 ↦{fullShare} f)
          ∗ bigSep ((ownRefs (τ := τ) (.scVector (cV L) (jV L))).erase ((Proc.scVector (cV L) (jV L)).devRef cc0_scratch0))
              fun b => iprop(∃ f, ((d, b) : Loc nD τ sig) ↦{fullShare} f)) := by
  unfold SparseCore.Cfg.ownBufs
  exact SparseCore.bigSep_erase' (SparseCore.Cfg.mem_ownRefs_of_owner rfl)

/-! ## What a tile holds -/

/-- A run of the table is held block by block. -/
theorem pts_tableRun (t : Nat) (f : Buf (Elt F) (wLoc d)) :
    (wLoc d ↦[tableRun t]{fullShare} f : sProp 𝕄)
      = iprop((wLoc d ↦[tableBlock (2 * t + (0 : Fin 2).val)]{fullShare} f) ∗ wLoc d ↦[tableBlock (2 * t + (1 : Fin 2).val)]{fullShare} f) := by
  rw [tableRun_eq, pointsTo_biUnion (ℓ := wLoc d) Finset.univ (fun k : Fin 2 => tableBlock (2 * t + k.val))
    fun k _ l _ h => tableBlock_disjoint fun e => h (Fin.ext (by omega)), bigSep_univ_two]

/-- Block `n` of the result, held in each of the four batch entries. -/
abbrev blockPts (n : Nat) (f : Buf (Elt F) (oLoc d)) : sProp 𝕄 :=
  iprop((oLoc d ↦[resultBlock 0 n]{fullShare} f) ∗ (oLoc d ↦[resultBlock 1 n]{fullShare} f)
    ∗ (oLoc d ↦[resultBlock 2 n]{fullShare} f) ∗ oLoc d ↦[resultBlock 3 n]{fullShare} f)

/-- A run of the result is held block by block. -/
theorem pts_resultRun (t : Nat) (f : Buf (Elt F) (oLoc d)) :
    (oLoc d ↦[resultRun t]{fullShare} f : sProp 𝕄)
      = iprop(blockPts d (2 * t + (0 : Fin 2).val) f ∗ blockPts d (2 * t + (1 : Fin 2).val) f) := by
  rw [resultRun_eq, pointsTo_biUnion (ℓ := oLoc d) Finset.univ (fun x : Fin 2 × Fin 4 => resultBlock x.2.val (2 * t + x.1.val))
    fun x _ y _ h => resultBlock_disjoint fun e => h (by
      have e1 := congrArg Prod.fst e
      have e2 := congrArg Prod.snd e
      dsimp only at e1 e2
      exact Prod.ext (Fin.ext (by omega)) (Fin.ext e1)),
    bigSep_univ_prod, bigSep_univ_two, bigSep_four, bigSep_four]
  rfl

/-! ## The value of a copied block -/

/-- Row `r`, column `e` of the table window at row `64 n` is the table's entry that row `r`, column `e` of the result
    window at row `64 n` of any batch entry is to repeat. -/
theorem window_source (offw inbw offo inbo) (b n : Nat) (hw : offw = ![64 * n, 0]) (ho : offo = ![b, 64 * n, 0]) (x : S64x1024.Idx) :
    (wWin offw inbw).view.emb x = source ((oWin offo inbo).view.emb x) := by
  subst hw ho
  have e : (oWin ![b, 64 * n, 0] inbo).view.emb x = (Rect.unit (s := S4x4096x1024) ![b, 64 * n, 0] S1x64x1024.size inbo).emb (Fin.cons ⟨0, Nat.one_pos⟩ x) :=
    congrArg (Rect.unit (s := S4x4096x1024) ![b, 64 * n, 0] S1x64x1024.size inbo).emb (Shape.reshapeEquiv_cons_one _ x)
  rw [e]
  funext a
  apply Fin.ext
  match a with
  | ⟨0, _⟩ => rfl
  | ⟨1, _⟩ => rfl

/-- What was last written through a part of a view is what is read back through that part. -/
theorem read_back {κ : Kind} {sp : Space} {s : Shape} {e : EltTy} (v : View sig κ sp s e) (r : Rect s) (f : v.ty.Contents (Elt F))
    (w : r.shape.Idx → Elt F e) (l : List (View.Piece (Elt F) s e)) :
    (v.slice r).read (Elt F) (v.writes (Elt F) f (⟨r, w⟩ :: l)) = w :=
  funext fun y => View.read_writes_cons_emb v f r w l y

/-- A result window written with what the table window at the same row holds has the entries it is to have. -/
theorem done_oWin (offw inbw offo inbo) (b n : Nat) (hw : offw = ![64 * n, 0]) (ho : offo = ![b, 64 * n, 0])
    (fw : Buf (Elt F) (wLoc d)) (fo : Buf (Elt F) (oLoc d)) (p : S64x1024.Idx → Elt F .f32)
    (hp : p = (wWin offw inbw).view.read (Elt F) fw) :
    ((oWin offo inbo).view.loc (tileV d L) ↦[(oWin offo inbo).view.set]{fullShare}
        (oWin offo inbo).view.writes (Elt F) fo [⟨Rect.whole S64x1024, p⟩] : sProp 𝕄)
      = oLoc d ↦[resultBlock b n]{fullShare} (spread fw : Buf (Elt F) (oLoc d)) := by
  rw [← pts_oWin d L offo inbo b n ho]
  refine pointsTo_congr fun i hi => ?_
  obtain ⟨x, -, rfl⟩ := Finset.mem_map.1 hi
  have h := congrFun (View.read_writes_whole (oWin offo inbo).view fo p) x
  subst hp
  rw [View.read_apply, View.read_apply, window_source offw inbw offo inbo b n hw ho x] at h
  generalize (oWin offo inbo).view.writes (Elt F) fo _ = q at h ⊢
  exact eq_of_heq ((cast_heq _ _).symm.trans ((heq_of_eq h).trans (cast_heq _ _)))

/-- The table window of trip `k` starts at block `2 t + k`, where `t` is the tile's run. -/
theorem off_table (k : Fin 2) : k0_off1 L (BitVec.ofNat 32 (64 * k.val)) = ![64 * (2 * runL L + k.val), 0] :=
  (k0_off1_eq L k).trans (by congr 1; dsimp only [runL]; omega)
/-- So does the result window of trip `k`, in batch entry 0. -/
theorem off_result0 (k : Fin 2) : k0_off2 L (BitVec.ofNat 32 (64 * k.val)) = ![0, 64 * (2 * runL L + k.val), 0] :=
  (k0_off2_eq L k).trans (by rw [show 256 * (L 1).val + 128 * (L 0).val + 64 * k.val = 64 * (2 * runL L + k.val) by dsimp only [runL]; omega])
/-- So does the result window of trip `k`, in batch entry 1. -/
theorem off_result1 (k : Fin 2) : k0_off3 L (BitVec.ofNat 32 (64 * k.val)) = ![1, 64 * (2 * runL L + k.val), 0] :=
  (k0_off3_eq L k).trans (by rw [show 256 * (L 1).val + 128 * (L 0).val + 64 * k.val = 64 * (2 * runL L + k.val) by dsimp only [runL]; omega])
/-- So does the result window of trip `k`, in batch entry 2. -/
theorem off_result2 (k : Fin 2) : k0_off4 L (BitVec.ofNat 32 (64 * k.val)) = ![2, 64 * (2 * runL L + k.val), 0] :=
  (k0_off4_eq L k).trans (by rw [show 256 * (L 1).val + 128 * (L 0).val + 64 * k.val = 64 * (2 * runL L + k.val) by dsimp only [runL]; omega])
/-- So does the result window of trip `k`, in batch entry 3. -/
theorem off_result3 (k : Fin 2) : k0_off5 L (BitVec.ofNat 32 (64 * k.val)) = ![3, 64 * (2 * runL L + k.val), 0] :=
  (k0_off5_eq L k).trans (by rw [show 256 * (L 1).val + 128 * (L 0).val + 64 * k.val = 64 * (2 * runL L + k.val) by dsimp only [runL]; omega])

variable [FloatOps F]

/-- The task of one tile.  It starts with its run of the table and its run of the result, and ends with the first
    unchanged and the second holding what the result must hold there. -/
theorem tile_body (hF : (K (F := F)).Facts) (fw : Buf (Elt F) (wLoc d)) (fo : Buf (Elt F) (oLoc d))
    (O : CellTallies nD τ sig (HIx 1)) (W : Waits sig (HIx 1)) (hO : ∀ g, O g none = 0) :
    iprop((levAts (K (F := F)).L (K (F := F)).lev : sProp 𝕄) ∗ emp
        ∗ ((wLoc d ↦[tableRun (runL L)]{fullShare} fw) ∗ oLoc d ↦[resultRun (runL L)]{fullShare} fo)
        ∗ scopedBufs (tileV d L) ∗ scopedSems0 (tileV d L) ∗ (owes (tileV d L) O W : sProp 𝕄))
      ⊢ wp frame (wpE (defs₀ (F := F)) 𝒱₀ (tileV d L) none) Set.univ
          (cc0_bcast_rows L wV (Memref.isWhole_whole _) oV (Memref.isWhole_whole _) bV (Memref.isWhole_whole _)
            cc0_scoped0 cc0_scoped1 cc0_scoped2 cc0_scoped3 cc0_scoped4 cc0_scoped5 cc0_scoped6 cc0_scoped7 cc0_scoped8 cc0_scoped9)
          fun _ => iprop(((wLoc d ↦[tableRun (runL L)]{fullShare} fw) ∗ oLoc d ↦[resultRun (runL L)]{fullShare} (spread fw : Buf (Elt F) (oLoc d)))
            ∗ scopedBufs (tileV d L) ∗ scopedSems0 (tileV d L)
            ∗ ∃ W', ⌜∀ p ∈ W', p ∈ W ∨ p.2 = none ∨ p.2 = some (0 : Fin 1)⌝ ∗ owes (tileV d L) O W') := by
  rw [(K (F := F)).scopedBufs_V hF d (cV L) (jV L), SparseCore.Cfg.scopedSems0_V (Val := Elt F) d (cV L) (jV L), ownSems0_V, ownBufs_V,
    bigSep_ten, pts_tableRun, pts_resultRun, pts_resultRun]
  iintro ⟨#Hlv, -, ⟨⟨Hw0, Hw1⟩, ⟨⟨A0, A1, A2, A3⟩, ⟨B0, B1, B2, B3⟩⟩⟩, ⟨⟨%fs, Hb⟩, Hbufs⟩, ⟨⟨S0, S1, S2, S3, S4, S5, S6, S7, S8, S9⟩, Hsems⟩, HO⟩
  ihave Hmw := (show levAts (K (F := F)).L (K (F := F)).lev ⊢ Transfers.MayWaits (tileV d L) (default : HIx 1) O from
    (K (F := F)).mayWaits_none (thr := tileV d L) hO) $$ Hlv
  -- the pieces in the body's spelling
  ihave Hb' := (Entails.of_eq (pts_bV (F := F) d L fs).symm) $$ Hb
  ihave Hw0' := (Entails.of_eq (pts_wWin (F := F) d L _ (k0_off1_inb L 0) _ (off_table L 0) fw).symm) $$ Hw0
  ihave Hw1' := (Entails.of_eq (pts_wWin (F := F) d L _ (k0_off1_inb L 1) _ (off_table L 1) fw).symm) $$ Hw1
  ihave A0' := (Entails.of_eq (pts_oWin (F := F) d L _ (k0_off2_inb L 0) _ _ (off_result0 L 0) fo).symm) $$ A0
  ihave A1' := (Entails.of_eq (pts_oWin (F := F) d L _ (k0_off3_inb L 0) _ _ (off_result1 L 0) fo).symm) $$ A1
  ihave A2' := (Entails.of_eq (pts_oWin (F := F) d L _ (k0_off4_inb L 0) _ _ (off_result2 L 0) fo).symm) $$ A2
  ihave A3' := (Entails.of_eq (pts_oWin (F := F) d L _ (k0_off5_inb L 0) _ _ (off_result3 L 0) fo).symm) $$ A3
  ihave B0' := (Entails.of_eq (pts_oWin (F := F) d L _ (k0_off2_inb L 1) _ _ (off_result0 L 1) fo).symm) $$ B0
  ihave B1' := (Entails.of_eq (pts_oWin (F := F) d L _ (k0_off3_inb L 1) _ _ (off_result1 L 1) fo).symm) $$ B1
  ihave B2' := (Entails.of_eq (pts_oWin (F := F) d L _ (k0_off4_inb L 1) _ _ (off_result2 L 1) fo).symm) $$ B2
  ihave B3' := (Entails.of_eq (pts_oWin (F := F) d L _ (k0_off5_inb L 1) _ _ (off_result3 L 1) fo).symm) $$ B3
  sl_unfold [cc0_bcast_rows, k0_part1, k0_part2, k0_part3, k0_part4]
  sl_exec (disch := exact View.amount_pos _ _ (show 0 < S64x1024.numel by decide))
  sl_step
  -- what is copied out is what was brought in
  have hp0 : tile_body.sl.dma0_1 d L fw fs = (wWin _ (k0_off1_inb L 0)).view.read (Elt F) fw := by
    sl_unfold_run_names
    exact read_back (bV).view _ _ _ _
  have hp1 : tile_body.sl.dma0_3 d L fw fs = (wWin _ (k0_off1_inb L 1)).view.read (Elt F) fw := by
    sl_unfold_run_names
    exact read_back (bV).view _ _ _ _
  ihave A0 := (Entails.of_eq (done_oWin (F := F) d L _ (k0_off1_inb L 0) _ (k0_off2_inb L 0) _ _ (off_table L 0) (off_result0 L 0) fw fo _ hp0)) $$ A0'
  ihave A1 := (Entails.of_eq (done_oWin (F := F) d L _ (k0_off1_inb L 0) _ (k0_off3_inb L 0) _ _ (off_table L 0) (off_result1 L 0) fw fo _ hp0)) $$ A1'
  ihave A2 := (Entails.of_eq (done_oWin (F := F) d L _ (k0_off1_inb L 0) _ (k0_off4_inb L 0) _ _ (off_table L 0) (off_result2 L 0) fw fo _ hp0)) $$ A2'
  ihave A3 := (Entails.of_eq (done_oWin (F := F) d L _ (k0_off1_inb L 0) _ (k0_off5_inb L 0) _ _ (off_table L 0) (off_result3 L 0) fw fo _ hp0)) $$ A3'
  ihave B0 := (Entails.of_eq (done_oWin (F := F) d L _ (k0_off1_inb L 1) _ (k0_off2_inb L 1) _ _ (off_table L 1) (off_result0 L 1) fw fo _ hp1)) $$ B0'
  ihave B1 := (Entails.of_eq (done_oWin (F := F) d L _ (k0_off1_inb L 1) _ (k0_off3_inb L 1) _ _ (off_table L 1) (off_result1 L 1) fw fo _ hp1)) $$ B1'
  ihave B2 := (Entails.of_eq (done_oWin (F := F) d L _ (k0_off1_inb L 1) _ (k0_off4_inb L 1) _ _ (off_table L 1) (off_result2 L 1) fw fo _ hp1)) $$ B2'
  ihave B3 := (Entails.of_eq (done_oWin (F := F) d L _ (k0_off1_inb L 1) _ (k0_off5_inb L 1) _ _ (off_table L 1) (off_result3 L 1) fw fo _ hp1)) $$ B3'
  ihave Hw0 := (Entails.of_eq (pts_wWin (F := F) d L _ (k0_off1_inb L 0) _ (off_table L 0) fw)) $$ Hw0'
  ihave Hw1 := (Entails.of_eq (pts_wWin (F := F) d L _ (k0_off1_inb L 1) _ (off_table L 1) fw)) $$ Hw1'
  isplitl [Hw0 Hw1 A0 A1 A2 A3 B0 B1 B2 B3]
  · isplitl [Hw0 Hw1]
    · isplitl [Hw0]; · iexact Hw0
      iexact Hw1
    isplitl [A0 A1 A2 A3]
    · isplitl [A0]; · iexact A0
      isplitl [A1]; · iexact A1
      isplitl [A2]; · iexact A2
      iexact A3
    isplitl [B0]; · iexact B0
    isplitl [B1]; · iexact B1
    isplitl [B2]; · iexact B2
    iexact B3
  isplitl [Hb' Hbufs]
  · isplitl [Hb']; · iexists _; iexact Hb'
    iexact Hbufs
  isplitl [S0 S1 S2 S3 S4 S5 S6 S7 S8 S9 Hsems]
  · isplitr [Hsems]; swap; · iexact Hsems
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    iexact S9
  iexists _; isplitr
  swap; · iexact HO
  -- a wait is recorded at no call or at the one call
  ipureintro; intro p _
  rcases p.2 with _ | q
  · exact .inr (.inl rfl)
  · exact .inr (.inr (congrArg some (Subsingleton.elim q 0)))

end Cert.Proof.Tile
-- ==== Proof.Launch.lean ====
/-
  The launch.  The TensorCore hands each SparseCore its tiles' runs of the table and of the result, the SparseCore hands
  each tile its own, and everything comes back with the result's runs filled in; the rows of the table that no tile reads
  stay behind on the TensorCore.
-/
module

public import proofs.«01_k».proof.Proof.Tile

@[expose] public section

noncomputable section

namespace Cert.Proof.Launch

open Cert.KernelIdeal Cert.KernelIdeal.Gen Cert.Proof.Blocks Cert.Proof.Tile

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

abbrev D [FloatOps F] : Defs nD τ sig (Elt F) (ΛP (F := F)) := Pipeline.defs pcfgs defs₀
abbrev 𝒱 : Variants := 𝒱₀.lift
abbrev v₀ : 𝒱.V := Sum.inl none

/-- The launch's semaphores and buffers are where the launch theorem wants them. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev EH : Emb UH (MT nD τ sig (HIx 1) (Elt F) ℕ UU ℕ) := embL

/-! ## The pieces -/

/-- What tile `i` of SparseCore `c` holds: its run of the table at `x`, its run of the result at `f`. -/
abbrev held (d : Dev nD) (x : Buf (Elt F) (wLoc d)) (f : Buf (Elt F) (oLoc d)) (c i : Nat) : sProp 𝕄 :=
  iprop((wLoc d ↦[tableRun (2 * i + c)]{fullShare} x) ∗ oLoc d ↦[resultRun (2 * i + c)]{fullShare} f)

/-- What all the tiles of SparseCore `c` hold. -/
abbrev heldCore (d : Dev nD) (x : Buf (Elt F) (wLoc d)) (f : Buf (Elt F) (oLoc d)) (c : Nat) : sProp 𝕄 :=
  bigSep Finset.univ fun i : Fin 16 => held d x f c i.val

/-- The two arrays whole are the rows of the table that no tile reads and what the tiles of the two SparseCores hold. -/
theorem arrays_eq (d : Dev nD) (x : Buf (Elt F) (wLoc d)) (f : Buf (Elt F) (oLoc d)) :
    (iprop((wLoc d ↦{fullShare} x) ∗ oLoc d ↦{fullShare} f) : sProp 𝕄)
      = iprop((wLoc d ↦[Finset.univ \ tableUsed]{fullShare} x) ∗ bigSep Finset.univ fun c : Fin 2 => heldCore d x f c.val) := by
  have hw : (wLoc d ↦{fullShare} x : sProp 𝕄)
      = iprop((bigSep Finset.univ fun y : Fin 2 × Fin 16 => wLoc d ↦[tableRun (run y)]{fullShare} x)
          ∗ wLoc d ↦[Finset.univ \ tableUsed]{fullShare} x) := by
    rw [← pointsTo_biUnion (ℓ := wLoc d) Finset.univ (fun y : Fin 2 × Fin 16 => tableRun (run y))
      fun y _ z _ h => tableRun_disjoint fun e => h (run_injective e)]
    have h : (wLoc d ↦{fullShare} x : sProp 𝕄) ⊣⊢ iprop((wLoc d ↦[tableUsed]{fullShare} x) ∗ wLoc d ↦[Finset.univ \ tableUsed]{fullShare} x) :=
      pointsTo_split_subset (ℓ := wLoc d) (Finset.subset_univ (tableUsed : Finset (Idx (wLoc d))))
    exact BI.Entails.antisymm h.1 h.2
  have ho : (oLoc d ↦{fullShare} f : sProp 𝕄) = bigSep Finset.univ fun y : Fin 2 × Fin 16 => oLoc d ↦[resultRun (run y)]{fullShare} f := by
    rw [← pointsTo_biUnion (ℓ := oLoc d) Finset.univ (fun y : Fin 2 × Fin 16 => resultRun (run y))
      fun y _ z _ h => resultRun_disjoint fun e => h (run_injective e), resultRun_cover]
  rw [hw, ho]
  rw [show (bigSep Finset.univ fun c : Fin 2 => heldCore d x f c.val : sProp 𝕄)
      = iprop((bigSep Finset.univ fun y : Fin 2 × Fin 16 => wLoc d ↦[tableRun (run y)]{fullShare} x)
        ∗ bigSep Finset.univ fun y : Fin 2 × Fin 16 => oLoc d ↦[resultRun (run y)]{fullShare} f) from by
    rw [← bigSep_sep', bigSep_univ_prod]
    rfl]
  generalize (bigSep Finset.univ fun y : Fin 2 × Fin 16 => wLoc d ↦[tableRun (run y)]{fullShare} x : sProp 𝕄) = A
  generalize (bigSep Finset.univ fun y : Fin 2 × Fin 16 => oLoc d ↦[resultRun (run y)]{fullShare} f : sProp 𝕄) = C
  generalize (wLoc d ↦[Finset.univ \ tableUsed]{fullShare} x : sProp 𝕄) = B
  have h₁ : iprop((A ∗ B) ∗ C) ⊢ iprop(B ∗ A ∗ C) := by
    iintro ⟨⟨A, B⟩, C⟩
    isplitl [B]; · iexact B
    isplitl [A] <;> iassumption
  have h₂ : iprop(B ∗ A ∗ C) ⊢ iprop((A ∗ B) ∗ C) := by
    iintro ⟨B, A, C⟩
    isplitr [C]; swap; · iexact C
    isplitl [A] <;> iassumption
  exact BI.Entails.antisymm h₁ h₂

/-! ## What the handshakes carry -/

variable (m : (ℓ : Loc nD τ sig) → Buf (Elt F) ℓ) (ρ : Dev nD → PrngReg)

/-- The result the kernel is to leave on device `d`. -/
abbrev goal (d : Dev nD) : Buf (Elt F) (oLoc d) := spread (m (wLoc d))

/-- The one call takes each tile's runs at the launch contents and brings them back with the result's filled in. -/
def P : (K (F := F)).Pay (nD := nD) (Val := Elt F) (Name := ℕ) (U := UU) where
  st := fun q d c => match q with | 0 => heldCore d (m (wLoc d)) (m (oLoc d)) c.val
  dn := fun q d c => match q with | 0 => heldCore d (m (wLoc d)) (goal m d) c.val
  go := fun q d c i => match q with | 0 => held d (m (wLoc d)) (m (oLoc d)) c.val i.val
  td := fun q d c i => match q with | 0 => held d (m (wLoc d)) (goal m d) c.val i.val
  x := fun _ _ => iprop(emp)

/-- What the handshakes carry is held outright. -/
instance P_storable : (P (F := F) m).IsStorable where
  st q d c := match q with
    | 0 => (inferInstance : BI.Storable (upEmb : UEmb _ 𝕄) (heldCore d (m (wLoc d)) (m (oLoc d)) c.val))
  dn q d c := match q with
    | 0 => (inferInstance : BI.Storable (upEmb : UEmb _ 𝕄) (heldCore d (m (wLoc d)) (goal m d) c.val))
  go q d c i := match q with
    | 0 => (inferInstance : BI.Storable (upEmb : UEmb _ 𝕄) (held d (m (wLoc d)) (m (oLoc d)) c.val i.val))
  td q d c i := match q with
    | 0 => (inferInstance : BI.Storable (upEmb : UEmb _ 𝕄) (held d (m (wLoc d)) (goal m d) c.val i.val))

/-- A SparseCore's part is its tiles' parts, before and after. -/
theorem vecSplit : (K (F := F)).VecSplit' (P m) 0 := by
  intro d c
  show heldCore d (m (wLoc d)) (m (oLoc d)) c.val ⊢ |={Set.univ}=> iprop(heldCore d (m (wLoc d)) (m (oLoc d)) c.val
    ∗ (heldCore d (m (wLoc d)) (goal m d) c.val -∗ heldCore d (m (wLoc d)) (goal m d) c.val))
  iintro H; imodintro
  isplitl [H]; · iexact H
  iintro H; iexact H

/-! ## The tiles' obligation -/

section Obligation

variable [FloatOps F]

/-- The grid point of SparseCore `c`, subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- What a tile runs is the kernel's body at its grid point. -/
theorem defs₀_vector (c : Fin τ.nSC) (s : Fin τ.nSub) :
    defs₀ (F := F) (.scVector c s) 0 ()
      = SparseCore.onTile hcore0 hsub0 (fun c s => cc0_bcast_rows (coordsV c s)
          (Memref.whole main_arg1_scv) (Memref.isWhole_whole _) (Memref.whole main_v0_scv) (Memref.isWhole_whole _)
          (Memref.whole cc0_scratch0) (Memref.isWhole_whole _)
          cc0_scoped0 cc0_scoped1 cc0_scoped2 cc0_scoped3 cc0_scoped4 cc0_scoped5 cc0_scoped6 cc0_scoped7 cc0_scoped8 cc0_scoped9) ⟨⟩ c s := rfl

/-- Every tile does its task. -/
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (coordsV ⟨_, hci.1⟩ ⟨_, hci.2⟩) hF (m (wLoc d)) (m (oLoc d)) O W hO

end Obligation

/-! ## The launch's own state -/

/-- The launch's state: the handshakes' rounds, and nothing for the copies yet. -/
def u₀ : UU := (initOf (K (F := F)).hsCells (K (F := F)).hsToks, 1)

/-- Nothing, any number of times over, is nothing. -/
theorem nothing {I : Type} (s : Finset I) : (bigSep s fun _ => iprop(emp)) = (iprop(emp) : sProp 𝕄) := bigSep_emp_const s

/-- The launch's state is the handshakes'; the kernel adds nothing of its own. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), nothing, nothing]
  iintro Hu
  ihave H := (ownU_pair (initOf (K (F := F)).hsCells (K (F := F)).hsToks) (1 : Counters)) $$ Hu
  icases H with ⟨HH, -⟩
  imodintro
  isplitl [HH]; · iexact HH
  isplitr <;> iempintro

/-! ## The TensorCore -/

/-- The TensorCore's arrays are the two arguments and the result. -/
theorem unscopedBufs_eq (d : Dev nD) (W : (b : Ref sig .tc) → Buf (Elt F) ((d.tc : Thread nD τ).loc b)) :
    (unscopedBufs d W : sProp 𝕄)
      = iprop(((SparseCore.T d).loc main_arg0 ↦{fullShare} W main_arg0) ∗ (wLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

/-- What device `d` ends with: the arguments as they were, the result as it is to be. -/
abbrev FIN (d : Dev nD) : sProp 𝕄 :=
  iprop(((SparseCore.T d).loc main_arg0 ↦{fullShare} m ((SparseCore.T d).loc main_arg0)) ∗ (wLoc d ↦{fullShare} m (wLoc d)) ∗ oLoc d ↦{fullShare} goal m d)

variable [FloatOps F]

/-- The TensorCore's program, which is the one call. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hi, Hwo⟩, Hts, -⟩, -⟩
  ihave Hp := (Entails.of_eq (arrays_eq (F := F) d (m (wLoc d)) (m (oLoc d)))) $$ Hwo
  icases Hp with ⟨Hrest, Hp⟩
  iapply ((K (F := F)).wp_run (D (F := F)) 𝒱 (EH := EH) (P := P m) κ d 0) $$ [Hst Hi Hrest Hp Hb Hts]
  isplitr; · iexact Hctx
  isplitl [Hst]; · iexact Hst
  isplitl [Hp]; · iexact Hp
  iintro ⟨Hst, Hdn⟩
  ihave Hwo := (Entails.of_eq (arrays_eq (F := F) d (m (wLoc d)) (goal m d)).symm) $$ [Hrest Hdn]
  · isplitl [Hrest]; · iexact Hrest
    iexact Hdn
  imodintro
  isplitl [Hst]; · iexact Hst
  isplitr [Hb Hts]
  · isplitl [Hi]; · iexact Hi
    iexact Hwo
  isplitl [Hb] <;> iassumption

/-- What device `d`'s part of the final memory is. -/
def fq (d : Dev nD) (s' : Phys nD τ sig (Elt F)) : Prop :=
  s'.mem.mem ((SparseCore.T d).loc main_arg0) = m ((SparseCore.T d).loc main_arg0) ∧ s'.mem.mem (wLoc d) = m (wLoc d) ∧ s'.mem.mem (oLoc d) = goal m d

/-- What a device ends with is in the final memory. -/
theorem hfin (d : Dev nD) (s' : Phys nD τ sig (Elt F)) : iprop(FIN m d ∗ SI s') ⊢ (⌜fq m d s'⌝ : sProp 𝕄) := by
  iintro ⟨⟨Hi, Hw, Ho⟩, HSI⟩
  ihave H := (persistent_entails_right (SI_pointsTo_agree (st := s') (ℓ := (SparseCore.T d).loc main_arg0) (I := Finset.univ) (q := fullShare)
    (f := m ((SparseCore.T d).loc main_arg0)))) $$ [HSI Hi]
  · isplitl [HSI] <;> iassumption
  icases H with ⟨%hi, HSI, -⟩
  ihave H := (persistent_entails_right (SI_pointsTo_agree (st := s') (ℓ := wLoc d) (I := Finset.univ) (q := fullShare) (f := m (wLoc d)))) $$ [HSI Hw]
  · isplitl [HSI] <;> iassumption
  icases H with ⟨%hw, HSI, -⟩
  ihave H := (SI_pointsTo_agree (st := s') (ℓ := oLoc d) (I := Finset.univ) (q := fullShare) (f := goal m d)) $$ [HSI Ho]
  · isplitl [HSI] <;> iassumption
  icases H with %ho
  ipureintro
  exact ⟨funext fun i => hi i (Finset.mem_univ i), funext fun i => hw i (Finset.mem_univ i), funext fun i => ho i (Finset.mem_univ i)⟩

/-! ## The run -/

/-- What the whole run ends in: on every device the arguments as they were and the result as it is to be; every semaphore at zero. -/
def QC : PUnit × MemSt nD τ sig (Elt F) → Prop := fun r =>
  (∀ c : Dev nD, r.2.mem ((SparseCore.T c).loc main_arg0) = m ((SparseCore.T c).loc main_arg0) ∧ r.2.mem (wLoc c) = m (wLoc c)
    ∧ r.2.mem (oLoc c) = goal m c) ∧ r.2.sem = fun _ => 0

/-- The kernel's run, over any float values. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Launch

end
-- ==== Proof.RefValue.lean ====
/-
  What the reference computes.  `jnp.take` of the table at the tiled positions prints as a gather at wrapped indices
  whose out-of-range entries are filled; the positions are `0 … 4095`, none is negative and none is past the table's
  last row, so entry `(b, p, e)` of the result is entry `(p, e)` of the table.
-/
module

public import proofs.«01_k».proof.Defs
public import Idealize.ShloMosaic.Lib.Pointwise
public import proofs.«01_k».proof.Proof.Gen.ReferenceIdeal.Run

@[expose] public section

noncomputable section

namespace Cert.Proof.RefValue

open Cert.ReferenceIdeal Cert.ReferenceIdeal.Gen
open Idealize.ShloMosaic

/-- The positions `0 … 4095`, one row for each of the four batch entries, as the reference makes them. -/
def pos : IVec S4x4096 32 :=
  shapeCast S4x4096 (broadcastInDim S4x1x1x4096 ![0, 1, 2, 3] bcast_S1x1x1x4096_S4x1x1x4096_0_1_2_3
    (shapeCast S1x1x1x4096 (broadcastInDim S1x4096 ![1] bcast_S4096_S1x4096_1 (iotaInDim S4096 32 0))
      shapeCasts_S1x4096_S1x1x1x4096)) shapeCasts_S4x1x1x4096_S4x4096

/-- Position `p` of every batch entry is the word `p`. -/
theorem pos_apply (j : S4x4096.Idx) : pos j = BitVec.ofNat 32 (j 1).val := by
  pointwise [pos]

/-- The row numbers the gather is given: a negative position would have the table's height added. -/
def starts : IVec S4x4096x1 32 :=
  broadcastInDim S4x4096x1 ![0, 1] bcast_S4x4096_S4x4096x1_0_1
    (select (cmpi .slt pos (broadcastInDim S4x4096 ![] bcast_S_S4x4096 (constantI S_ 32 0#32)))
      (addi pos (broadcastInDim S4x4096 ![] bcast_S_S4x4096 (constantI S_ 32 8192#32))) pos)

/-- A word below 4096, read as a signed number, is the number it was made from. -/
theorem toInt_small (n : Nat) (hn : n < 4096) : (BitVec.ofNat 32 n).toInt = n := by
  rw [BitVec.toInt_eq_toNat_of_lt (by rw [BitVec.toNat_ofNat]; omega), BitVec.toNat_ofNat,
    Nat.mod_eq_of_lt (by omega)]

/-- No position is negative, so the row number at position `p` is the word `p`. -/
theorem starts_apply (j : S4x4096x1.Idx) : starts j = BitVec.ofNat 32 (j 1).val := by
  have hj : (j 1).val < 4096 := (j 1).isLt
  have hn : IntOp.cmpi .slt (BitVec.ofNat 32 (j 1).val) 0#32 = 0#1 := by
    have : ¬ ((j 1).val : Int) < 0 := by omega
    simp [IntOp.cmpi, BitVec.slt, toInt_small _ hj, this]
  pointwise [starts, pos]
  rw [hn]
  rfl

/-- Which row numbers lie inside the table: at least 0 and at most 8191. -/
def inside : IVec S4x4096x1 1 :=
  andi (cmpi .sge starts (broadcastInDim S4x4096x1 ![] bcast_S_S4x4096x1 (constantI S_ 32 0#32)))
    (cmpi .sle starts (broadcastInDim S4x4096x1 ![0, 1, 2] bcast_S1x1x1_S4x4096x1_0_1_2
      (broadcastInDim S1x1x1 ![2] bcast_S1_S1x1x1_2 (constantI S1 32 8191#32))))

/-- Every row number lies inside the table. -/
theorem inside_apply (j : S4x4096x1.Idx) : inside j = 1#1 := by
  have hj : (j 1).val < 4096 := (j 1).isLt
  have hs := starts_apply j
  have hlo : IntOp.cmpi .sge (BitVec.ofNat 32 (j 1).val) 0#32 = 1#1 := by
    simp [IntOp.cmpi, BitVec.sle, toInt_small _ hj]
  have hhi : IntOp.cmpi .sle (BitVec.ofNat 32 (j 1).val) 8191#32 = 1#1 := by
    have : (j 1).val ≤ 8191 := by omega
    simp [IntOp.cmpi, BitVec.sle, toInt_small _ hj, this]
  pointwise [inside]
  rw [hs, hlo, hhi]
  rfl

/-- A conjunction over any part of an array of ones is one. -/
theorem foldl_and_ones {ι : Type} (l : List ι) (f : ι → BitVec 1) (h : ∀ i, f i = 1#1) :
    l.foldl (fun r i => IntOp.andi r (f i)) 1#1 = 1#1 := by
  induction l with
  | nil => rfl
  | cons i l ih => rw [List.foldl_cons, h i]; exact ih

/-- So the mask of positions to keep is one everywhere. -/
theorem mask_apply (j : S4x4096.Idx) :
    Host.reduce IntOp.andi inside (constantI S_ 1 1#1) reducesTo_S4x4096x1_S4x4096_d2 h_S_ j = 1#1 :=
  foldl_and_ones _ _ fun _ => inside_apply _

variable {α : Type}

/-- Entry `(b, p, e)` of the gather is the table's entry `(p, e)`: the row number, read as a signed number and
    held to the table, is `p` itself. -/
theorem gather_apply (x : S8192x1024.Idx → α) (j : S4x4096x1024.Idx) (i : S8192x1024.Idx)
    (h0 : (i 0).val = (j 1).val) (h1 : (i 1).val = (j 2).val) :
    Host.gather gather_S8192x1024_S4x4096x1_S4x4096x1024_2_0_n_n_0_2_11024 x starts j = x i := by
  have hj : (j 1).val < 4096 := (j 1).isLt
  refine congrArg x (funext fun a => Fin.ext ?_)
  match a with
  | ⟨0, _⟩ =>
    have hw : starts (GatherDims.siIdx gather_S8192x1024_S4x4096x1_S4x4096x1024_2_0_n_n_0_2_11024 j ⟨0, by decide⟩)
        = BitVec.ofNat 32 (j 1).val := starts_apply _
    show min (starts (GatherDims.siIdx gather_S8192x1024_S4x4096x1_S4x4096x1024_2_0_n_n_0_2_11024 j ⟨0, by decide⟩)).toInt.toNat 8191
      + 0 + 0 = (i 0).val
    rw [hw, toInt_small _ hj, h0]
    omega
  | ⟨1, _⟩ =>
    show 0 + 0 + (j 2).val = (i 1).val
    omega

variable {F : FTy → Type} [FloatOps F]

/-- THE REFERENCE'S VALUE: entry `(b, p, e)` is the table's entry `(p, e)`. -/
theorem value_apply (x : FVec F S8192x1024 .f32) (j : S4x4096x1024.Idx) (i : S8192x1024.Idx)
    (h0 : (i 0).val = (j 1).val) (h1 : (i 1).val = (j 2).val) :
    select (broadcastInDim S4x4096x1024 ![0, 1] bcast_S4x4096_S4x4096x1024_0_1
        (Host.reduce IntOp.andi inside (constantI S_ 1 1#1) reducesTo_S4x4096x1_S4x4096_d2 h_S_))
      (Host.gather gather_S8192x1024_S4x4096x1_S4x4096x1024_2_0_n_n_0_2_11024 x starts)
      (broadcastInDim S4x4096x1024 ![] bcast_S_S4x4096x1024 (constant S_ .f32 0x7FC00000#32)) j = x i := by
  have hm : broadcastInDim S4x4096x1024 ![0, 1] bcast_S4x4096_S4x4096x1024_0_1
      (Host.reduce IntOp.andi inside (constantI S_ 1 1#1) reducesTo_S4x4096x1_S4x4096_d2 h_S_) j = 1#1 := mask_apply _
  unfold select
  rw [hm]
  exact (if_pos rfl).trans (gather_apply x j i h0 h1)

end Cert.Proof.RefValue
-- ==== Proof.RefRun.lean ====
/-
  The reference's run: it ends with the table's first 4096 rows, once for each batch entry, and nothing else changed.
-/
module

public import proofs.«01_k».proof.Proof.RefValue
public import proofs.«01_k».proof.Proof.Blocks
public import Idealize.ShloMosaic.Lib.Quiescent

@[expose] public section

noncomputable section

namespace Cert.Proof.RefRun

open Cert.ReferenceIdeal Cert.ReferenceIdeal.Gen Cert.Proof.Blocks
open Idealize.ShloMosaic Idealize.SL.Sem

variable {F : FTy → Type} [FloatOps F]

/-- The reference ends with its arguments as they were, its result repeating the table's rows, and no semaphore raised. -/
theorem run_reference (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v5) = spread (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono (fun r h => ⟨fun c => ⟨(h c).1.trans (funext fun j => RefValue.value_apply _ j (source j) rfl rfl), (h c).2⟩,
    sem_eq_zero_of_no_sems (by decide) r.2⟩) (Cert.ReferenceIdeal.Value.run m ρ)

end Cert.Proof.RefRun

end
-- ==== Proof.lean ====
/-
  The claims.  The kernel's one run, over any float values, gives both of its frames and its side of the value claim; the
  reference's run gives the rest.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Launch
public import proofs.«01_k».proof.Proof.RefRun
public import Idealize.ShloMosaic.Adequacy
public import Idealize.ShloMosaic.Init

@[expose] public section

noncomputable section

namespace Cert.Proof

open Idealize.ShloMosaic Idealize.SL.Sem Cert.Kernel

/-- The kernel as written runs, keeps its arguments and ends with every semaphore at zero. -/
theorem frame_kernel : Cert.quiescent_Kernel := fun m ρ _ =>
  (θ_run Cert.KernelIdeal.defs _ _).mono (fun _ h => ⟨fun c => ⟨(h.1 c).1, (h.1 c).2.1⟩, h.2⟩) (Launch.run_main (F := Bits) m ρ)

/-- So does the kernel read over the ideal numbers. -/
theorem frame_ideal : Cert.quiescent_KernelIdeal := fun m ρ _ =>
  (θ_run Cert.KernelIdeal.defs _ _).mono (fun _ h => ⟨fun c => ⟨(h.1 c).1, (h.1 c).2.1⟩, h.2⟩) (Launch.run_main (F := Ideal) m ρ)

/-- And the reference. -/
theorem frame_reference : Cert.quiescent_ReferenceIdeal := fun m ρ _ =>
  (θ_run Cert.ReferenceIdeal.defs _ _).mono (fun _ h => ⟨fun c => (h.1 c).2, h.2⟩) (RefRun.run_reference (F := Ideal) m ρ)

/-- The kernel and the reference leave the same result: the table's first 4096 rows, once for each batch entry. -/
theorem same_value : Cert.algebraic_KernelIdeal_ReferenceIdeal := fun m ρ m' ρ' _ hm =>
  ⟨fun c => Launch.goal m c,
    (θ_run Cert.KernelIdeal.defs _ _).mono (fun _ h c => ⟨(h.1 c).2.2, (h.1 c).1, (h.1 c).2.1⟩) (Launch.run_main (F := Ideal) m ρ),
    (θ_run Cert.ReferenceIdeal.defs _ _).mono
      (fun _ h c => ⟨(h.1 c).1.trans (congrArg Blocks.spread (hm c).2), (h.1 c).2⟩) (RefRun.run_reference (F := Ideal) m' ρ')⟩

/-- Everything claimed. -/
theorem claim : Cert.Claim := ⟨Cert.Kernel.Gen.facts, Cert.KernelIdeal.Gen.facts, Cert.ReferenceIdeal.Gen.facts,
  frame_kernel, frame_ideal, frame_reference, trivial, same_value⟩

end Cert.Proof

end
